-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S512 : S_.BroadcastsInDim S512 (![] : Fin 0 → Fin S512.rank)
  bcast_S_S256 : S_.BroadcastsInDim S256 (![] : Fin 0 → Fin S256.rank)

variable [Facts]

def fn {F : FTy → Type} [FloatOps F] (main_arg0 : FVec F S10000x256 .f32) (main_arg1 : FVec F S10000x256 .f32) (main_arg2 : IVec S2x160000 32) (main_arg3 : FVec F S256x512 .f32) (main_arg4 : FVec F S512 .f32) (main_arg5 : FVec F S256x512 .f32) (main_arg6 : FVec F S512 .f32) (main_arg7 : FVec F S512x256 .f32) (main_arg8 : FVec F S256 .f32) : IVec S512 1 × IVec S512 1 × IVec S256 1 :=
  let main_cst : FVec F S_ .f32 := constant S_ .f32 0x00000000#32
  let main_v0 : FVec F S512 .f32 := broadcastInDim S512 ![] bcast_S_S512 main_cst
  let main_v1 : IVec S512 1 := cmpf .oeq main_arg4 main_v0
  let main_cst_0 : FVec F S_ .f32 := constant S_ .f32 0x00000000#32
  let main_v2 : FVec F S512 .f32 := broadcastInDim S512 ![] bcast_S_S512 main_cst_0
  let main_v3 : IVec S512 1 := cmpf .oeq main_arg6 main_v2
  let main_cst_1 : FVec F S_ .f32 := constant S_ .f32 0x00000000#32
  let main_v4 : FVec F S256 .f32 := broadcastInDim S256 ![] bcast_S_S256 main_cst_1
  let main_v5 : IVec S256 1 := cmpf .oeq main_arg8 main_v4
  (main_v1, main_v3, main_v5)
-- ==== Kernel.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S3x2000x512 : Shape := ⟨3, ![3, 2000, 512]⟩
abbrev S3x2000x256 : Shape := ⟨3, ![3, 2000, 256]⟩
abbrev S512x512 : Shape := ⟨2, ![512, 512]⟩
abbrev S3 : Shape := ⟨1, ![3]⟩
abbrev S3x2 : Shape := ⟨2, ![3, 2]⟩
abbrev S1 : Shape := ⟨1, ![1]⟩
abbrev S_ : Shape := ⟨0, ![]⟩
abbrev S1x1000x256 : Shape := ⟨3, ![1, 1000, 256]⟩
abbrev S1000x256 : Shape := ⟨2, ![1000, 256]⟩
abbrev S1x2000x256 : Shape := ⟨3, ![1, 2000, 256]⟩
abbrev S2000x256 : Shape := ⟨2, ![2000, 256]⟩
abbrev S1x1000x512 : Shape := ⟨3, ![1, 1000, 512]⟩
abbrev S1000x512 : Shape := ⟨2, ![1000, 512]⟩
abbrev S1x1 : Shape := ⟨2, ![1, 1]⟩

abbrev nBuf : Space → Nat
  | .hbm => 10
  | .vmem => 7
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S2x160000, .i32⟩
  | .hbm, ⟨3, _⟩ => ⟨S256x512, .f32⟩
  | .hbm, ⟨4, _⟩ => ⟨S512, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S10000x256, .f32⟩
  | .local _ .vmem, ⟨0, _⟩ => ⟨S3x2000x512, .f32⟩
  | .local _ .vmem, ⟨1, _⟩ => ⟨S3x2000x256, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S512x512, .bf16⟩
  | .local _ .vmem, ⟨6, _⟩ => ⟨S512x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none
-- ==== ReferenceIdeal.lean ====
abbrev S10000x256 : Shape := ⟨2, ![10000, 256]⟩
abbrev S2x160000 : Shape := ⟨2, ![2, 160000]⟩
abbrev S256x512 : Shape := ⟨2, ![256, 512]⟩
abbrev S512 : Shape := ⟨1, ![512]⟩
abbrev S512x256 : Shape := ⟨2, ![512, 256]⟩
abbrev S256 : Shape := ⟨1, ![256]⟩
abbrev S10000x512 : Shape := ⟨2, ![10000, 512]⟩
abbrev S1x512 : Shape := ⟨2, ![1, 512]⟩
abbrev S_ : Shape := ⟨0, ![]⟩
abbrev S1x256 : Shape := ⟨2, ![1, 256]⟩

abbrev nBuf : Space → Nat
  | .hbm => 31
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S2x160000, .i32⟩
  | .hbm, ⟨3, _⟩ => ⟨S256x512, .f32⟩
  | .hbm, ⟨4, _⟩ => ⟨S512, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S10000x512, .f32⟩
  | .hbm, ⟨10, _⟩ => ⟨S1x512, .f32⟩
  | .hbm, ⟨11, _⟩ => ⟨S10000x512, .f32⟩
  | .hbm, ⟨12, _⟩ => ⟨S10000x512, .f32⟩
  | .hbm, ⟨13, _⟩ => ⟨S10000x512, .f32⟩
  | .hbm, ⟨14, _⟩ => ⟨S1x512, .f32⟩
  | .hbm, ⟨15, _⟩ => ⟨S10000x512, .f32⟩
  | .hbm, ⟨16, _⟩ => ⟨S10000x512, .f32⟩
  | .hbm, ⟨17, _⟩ => ⟨S_, .f32⟩
  | .hbm, ⟨18, _⟩ => ⟨S10000x512, .f32⟩
  | .hbm, ⟨19, _⟩ => ⟨S10000x512, .f32⟩
  | .hbm, ⟨20, _⟩ => ⟨S_, .f32⟩
  | .hbm, ⟨21, _⟩ => ⟨S10000x512, .f32⟩
  | .hbm, ⟨22, _⟩ => ⟨S10000x512, .f32⟩
  | .hbm, ⟨23, _⟩ => ⟨S10000x512, .f32⟩
  | .hbm, ⟨24, _⟩ => ⟨S_, .f32⟩
  | .hbm, ⟨25, _⟩ => ⟨S10000x512, .f32⟩
  | .hbm, ⟨26, _⟩ => ⟨S10000x512, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== Proof.Windows.lean ====
/-
  Reading a scratch of several slots after rows were copied into windows of it.

  Facts on views alone, for any program: a window of a rank-three buffer is the box of one slot, some rows and some columns, and
  a copy into it goes through the window with the slot's axis dropped.
-/
module

public import Idealize.ShloMosaic.Signature.Memref
public import Idealize.ShloMosaic.Lib.ViewIndex
public import Idealize.ShloMosaic.Lib.Writes
public import Idealize.ShloMosaic.Lib.WritesUnit
public import Idealize.ShloMosaic.Lib.Pointwise.Index

@[expose] public section

namespace Cert.Windows

open Idealize.ShloMosaic

variable {sig : RefSig} {κ : Kind} {sp : Space} {e : EltTy} {Val : EltTy → Type} {A B D n q : ℕ}

/-- Behind a slot's coordinate `0`, an index of the window with the slot's axis dropped is the window's index matched with it. -/
theorem matched (h : (⟨2, ![n, q]⟩ : Shape).numel = (⟨3, ![1, n, q]⟩ : Shape).numel) (i : Fin n) (j : Fin q) :
    Shape.reshapeEquiv h (ix2 i j) = ix3 (⟨0, Nat.one_pos⟩ : Fin 1) i j := by
  rw [Shape.reshapeEquiv_cons_one]
  funext a
  match a with
  | ⟨0, _⟩ => rfl
  | ⟨1, _⟩ => rfl
  | ⟨2, _⟩ => rfl

/-- What a buffer of `A` slots reads at an index after `w` was copied into slot `s`, rows `o …` and columns `p …`: `w` at
    the index within that window, and outside it what was there before. -/
theorem read_copied (v : View sig κ sp ⟨3, ![A, B, D]⟩ e) (f : v.ty.Contents Val) (s o p : ℕ)
    (inb : ∀ a, (![s, o, p] : Fin 3 → ℕ) a + (![1, n, q] : Fin 3 → ℕ) a ≤ (⟨3, ![A, B, D]⟩ : Shape).size a)
    (hq : (⟨2, ![n, q]⟩ : Shape).numel = (⟨3, ![1, n, q]⟩ : Shape).numel) (w : (⟨2, ![n, q]⟩ : Shape).Idx → Val e)
    (i : Fin A) (j : Fin B) (k : Fin D) :
    v.read Val (((v.slice (Rect.unit ![s, o, p] ![1, n, q] inb)).reshape ⟨2, ![n, q]⟩ hq).write Val f w Finset.univ) (ix3 i j k)
      = if h : i.val = s ∧ (o ≤ j.val ∧ j.val < o + n) ∧ (p ≤ k.val ∧ k.val < p + q) then
          w (ix2 ⟨j.val - o, by omega⟩ ⟨k.val - p, by omega⟩)
        else v.read Val f (ix3 i j k) := by
  rw [View.write_reshape_univ]
  split_ifs with h
  · have e : ix3 i j k = (Rect.unit (s := ⟨3, ![A, B, D]⟩) ![s, o, p] ![1, n, q] inb).emb
        (Shape.reshapeEquiv hq (ix2 ⟨j.val - o, by omega⟩ ⟨k.val - p, by omega⟩)) := by
      rw [matched]
      refine Shape.idx3_ext ?_ ?_ ?_
      · show i.val = s + 1 * 0
        omega
      · show j.val = o + 1 * (j.val - o)
        omega
      · show k.val = p + 1 * (k.val - p)
        omega
    rw [e, View.read_slice_write_emb _ _ _ (Finset.mem_univ _), Equiv.symm_apply_apply]
  · refine View.read_slice_write_of_not_mem _ _ _ _ fun hm => h ?_
    obtain ⟨x, -, hx⟩ := Finset.mem_map.mp hm
    have h0 : s + 1 * (x 0).val = i.val := congrArg Fin.val (congrFun hx 0)
    have h1 : o + 1 * (x 1).val = j.val := congrArg Fin.val (congrFun hx 1)
    have h2 : p + 1 * (x 2).val = k.val := congrArg Fin.val (congrFun hx 2)
    have l0 : (x 0).val < 1 := (x 0).isLt
    have l1 : (x 1).val < n := (x 1).isLt
    have l2 : (x 2).val < q := (x 2).isLt
    omega

/-- A load of one slot's box of rows reads the buffer at the box's indices. -/
theorem load_box (v : View sig κ sp ⟨3, ![A, B, D]⟩ e) (f : v.ty.Contents Val) (s o p : ℕ)
    (inb : ∀ a, (![s, o, p] : Fin 3 → ℕ) a + (![1, n, q] : Fin 3 → ℕ) a ≤ (⟨3, ![A, B, D]⟩ : Shape).size a)
    (z : Fin 1) (i : Fin n) (j : Fin q) (hs : s < A) (hi : o + i.val < B) (hj : p + j.val < D) :
    v.readAt Val (Rect.unit (s := ⟨3, ![A, B, D]⟩) ![s, o, p] ![1, n, q] inb).toLoadRect f (ix3 z i j)
      = v.read Val f (ix3 ⟨s, hs⟩ ⟨o + i.val, hi⟩ ⟨p + j.val, hj⟩) := by
  rw [View.readAt_apply]
  refine congrArg (v.read Val f) (Shape.idx3_ext ?_ ?_ ?_)
  · show s + 1 * z.val = s
    omega
  · show o + 1 * i.val = o + i.val
    omega
  · show p + 1 * j.val = p + j.val
    omega

/-- A box of rows of a rank-two array, read through its window, is the array's reading at the box's indices. -/
theorem read_rows (v : View sig κ sp ⟨2, ![A, B]⟩ e) (f : v.ty.Contents Val) (o p : ℕ)
    (inb : ∀ a, (![o, p] : Fin 2 → ℕ) a + (![n, q] : Fin 2 → ℕ) a ≤ (⟨2, ![A, B]⟩ : Shape).size a)
    (i : Fin n) (j : Fin q) (hi : o + i.val < A) (hj : p + j.val < B) :
    (v.slice (Rect.unit (s := ⟨2, ![A, B]⟩) ![o, p] ![n, q] inb)).read Val f (ix2 i j) = v.read Val f (ix2 ⟨o + i.val, hi⟩ ⟨p + j.val, hj⟩) := by
  show v.read Val f ((Rect.unit (s := ⟨2, ![A, B]⟩) ![o, p] ![n, q] inb).emb (ix2 i j)) = _
  refine congrArg (v.read Val f) ?_
  funext a
  match a with
  | ⟨0, _⟩ => exact Fin.ext (show o + 1 * i.val = o + i.val by omega)
  | ⟨1, _⟩ => exact Fin.ext (show p + 1 * j.val = p + j.val by omega)

/-- What leaves a slot: the window a copy was last stored into reads, with the slot's axis dropped, what was stored. -/
theorem read_stored (v : View sig κ sp ⟨3, ![A, B, D]⟩ e) (f : v.ty.Contents Val) (s o p : ℕ)
    (inb : ∀ a, (![s, o, p] : Fin 3 → ℕ) a + (![1, n, q] : Fin 3 → ℕ) a ≤ (⟨3, ![A, B, D]⟩ : Shape).size a)
    (hq : (⟨2, ![n, q]⟩ : Shape).numel = (⟨3, ![1, n, q]⟩ : Shape).numel) (w : (⟨3, ![1, n, q]⟩ : Shape).Idx → Val e)
    (L : List (View.Piece Val ⟨3, ![A, B, D]⟩ e)) (i : Fin n) (j : Fin q) :
    ((v.slice (Rect.unit ![s, o, p] ![1, n, q] inb)).reshape ⟨2, ![n, q]⟩ hq).read Val
        (v.writes Val f ((⟨Rect.unit ![s, o, p] ![1, n, q] inb, w⟩ : View.Piece Val ⟨3, ![A, B, D]⟩ e) :: L)) (ix2 i j)
      = w (ix3 ⟨0, Nat.one_pos⟩ i j) := by
  show v.read Val _ ((Rect.unit (s := ⟨3, ![A, B, D]⟩) ![s, o, p] ![1, n, q] inb).emb (Shape.reshapeEquiv hq (ix2 i j))) = _
  rw [matched, View.writes_cons, View.read_slice_write_emb _ _ _ (Finset.mem_univ _)]

/-- What a rank-two array reads at an index after `w` was last written into its whole rows `o …`: `w` within those rows, and
    outside them what the earlier writes left. -/
theorem read_written_rows (v : View sig κ sp ⟨2, ![A, B]⟩ e) (f : v.ty.Contents Val) (o : ℕ)
    (inb : ∀ a, (![o, 0] : Fin 2 → ℕ) a + (![n, B] : Fin 2 → ℕ) a ≤ (⟨2, ![A, B]⟩ : Shape).size a)
    (w : (⟨2, ![n, B]⟩ : Shape).Idx → Val e) (L : List (View.Piece Val ⟨2, ![A, B]⟩ e)) (i : Fin A) (j : Fin B) :
    v.read Val (v.writes Val f ((⟨Rect.unit ![o, 0] ![n, B] inb, w⟩ : View.Piece Val ⟨2, ![A, B]⟩ e) :: L)) (ix2 i j)
      = if h : o ≤ i.val ∧ i.val < o + n then w (ix2 ⟨i.val - o, by omega⟩ j) else v.read Val (v.writes Val f L) (ix2 i j) := by
  split_ifs with h
  · refine View.read_writes_cons_unit_of_mem v f inb w L (ix2 i j) (ix2 ⟨i.val - o, by omega⟩ j) rfl fun a => ?_
    match a with
    | ⟨0, _⟩ => exact (show i.val = o + (i.val - o) by omega)
    | ⟨1, _⟩ => exact (show j.val = 0 + j.val by omega)
  · exact View.read_writes_cons_unit_of_not_mem v f inb w L (ix2 i j) rfl 0 (show i.val < o ∨ o + n ≤ i.val by omega)

end Cert.Windows
-- ==== Proof.KernelIdealRun.lean ====
/-
  The kernel's one body, run from its first copy to its last wait.

  The body copies the three weight matrices on chip, scales and narrows them, and then goes through six chunks of rows: each
  chunk's rows of `f` and of `s` are copied side by side into a slot of a three-slot scratch, multiplied block of 1000 rows by
  block of 1000 rows, stored into a slot of a second scratch and copied out. Fifteen counters order the copies, one copy on
  a counter at a time. This module names the operands and states that the run ends, with the result array overwritten by ten
  blocks of rows; `KernelIdealBlocks.lean` says what each block holds.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The logic's resources: the pipeline library's beside the transfers' counters. -/
local notation "𝕄" => MT nD τ sig Unit (Elt F) ℕ (Pipeline.UD sig nD τ) ℕ

/-! ## The operands -/

/-- The rows `f` and `s` and the three weight matrices, left in the arrays they were passed in. -/
abbrev aF : Memref sig .tc .hbm S10000x256 .f32 := Memref.whole main_arg0
abbrev aS : Memref sig .tc .hbm S10000x256 .f32 := Memref.whole main_arg1
abbrev aW1 : Memref sig .tc .hbm S256x512 .f32 := Memref.whole main_arg3
abbrev aW2 : Memref sig .tc .hbm S256x512 .f32 := Memref.whole main_arg5
abbrev aW3 : Memref sig .tc .hbm S512x256 .f32 := Memref.whole main_arg7
/-- The result's array. -/
abbrev aOut : Memref sig .tc .hbm S10000x256 .f32 := Memref.whole main_v0
/-- The three slots that rows of `f` and `s` are copied into side by side, and the three slots results are copied out of. -/
abbrev sRows : Memref sig .tc .vmem S3x2000x512 .f32 := Memref.whole cc0_scratch0
abbrev sOut : Memref sig .tc .vmem S3x2000x256 .f32 := Memref.whole cc0_scratch1
/-- The weights on chip as copied, then the two first ones scaled, narrowed and stacked, and the third one narrowed. -/
abbrev sW1 : Memref sig .tc .vmem S256x512 .f32 := Memref.whole cc0_scratch2
abbrev sW2 : Memref sig .tc .vmem S256x512 .f32 := Memref.whole cc0_scratch3
abbrev sW3 : Memref sig .tc .vmem S512x256 .f32 := Memref.whole cc0_scratch4
abbrev sW12 : Memref sig .tc .vmem S512x512 .bf16 := Memref.whole cc0_scratch5
abbrev sW3n : Memref sig .tc .vmem S512x256 .bf16 := Memref.whole cc0_scratch6

/-- The contents of an operand's whole buffer on core `c`. -/
abbrev Held (c : Dev nD) {sp : Space} {S : Shape} {e : EltTy} (M : Memref sig .tc sp S e) : Type :=
  Buf (Elt F) (M.view.loc (c : Thread nD τ))
/-- An operand's buffer held whole at contents `f`. -/
abbrev pt (c : Dev nD) {sp : Space} {S : Shape} {e : EltTy} (M : Memref sig .tc sp S e) (f : Held (F := F) c M) : sProp 𝕄 :=
  M.view.loc (c : Thread nD τ) ↦{fullShare} f
/-- Counter `j` of the kernel's fifteen, at zero. -/
abbrev zero (c : Dev nD) (j : Fin 15) : sProp 𝕄 := semVal ((c : Thread nD τ), SemLoc.dma j) 0
/-- All fifteen counters at zero. -/
abbrev zeros (c : Dev nD) : sProp 𝕄 :=
  iprop(zero (F := F) c 0 ∗ zero (F := F) c 1 ∗ zero (F := F) c 2 ∗ zero (F := F) c 3 ∗ zero (F := F) c 4 ∗ zero (F := F) c 5 ∗ zero (F := F) c 6 ∗ zero (F := F) c 7
    ∗ zero (F := F) c 8 ∗ zero (F := F) c 9 ∗ zero (F := F) c 10 ∗ zero (F := F) c 11 ∗ zero (F := F) c 12 ∗ zero (F := F) c 13 ∗ zero (F := F) c 14)
/-- The seven scratch buffers, at whatever they hold. -/
abbrev scratch (c : Dev nD) : sProp 𝕄 :=
  iprop((∃ f, pt (F := F) c sRows f) ∗ (∃ f, pt (F := F) c sOut f) ∗ (∃ f, pt (F := F) c sW1 f) ∗ (∃ f, pt (F := F) c sW2 f)
    ∗ (∃ f, pt (F := F) c sW3 f) ∗ (∃ f, pt (F := F) c sW12 f) ∗ (∃ f, pt (F := F) c sW3n f))

/-! ## The run -/

/-- From the five arguments whole at their contents, the result's array and the seven scratch buffers at anything and the
    fifteen counters at zero, the body runs to its end: the arguments are as they were, the counters are at zero, and the
    result's array is overwritten by the pieces the run finds. -/
noncomputable def kernelRun (c : Dev nD) (fF : Held (F := F) c aF) (fS : Held (F := F) c aS)
    (w1 : Held (F := F) c aW1) (w2 : Held (F := F) c aW2) (w3 : Held (F := F) c aW3)
    (g0 : Held (F := F) c sRows) (g1 : Held (F := F) c sOut) (g2 : Held (F := F) c sW1) (g3 : Held (F := F) c sW2)
    (g4 : Held (F := F) c sW3) (g5 : Held (F := F) c sW12) (g6 : Held (F := F) c sW3n) :
    { L : List (View.Piece (Elt F) S10000x256 .f32) //
      ∀ (o : Held (F := F) c aOut) (W : Waits sig Unit) (K : PUnit → sProp 𝕄),
        iprop((pt c sRows g0 ∗ pt c sOut g1 ∗ pt c sW1 g2 ∗ pt c sW2 g3 ∗ pt c sW3 g4 ∗ pt c sW12 g5 ∗ pt c sW3n g6)
            ∗ zeros (F := F) c
            ∗ (pt c aF fF ∗ pt c aS fS ∗ pt c aW1 w1 ∗ pt c aW2 w2 ∗ pt c aW3 w3) ∗ pt c aOut o
            ∗ owes (c : Thread nD τ) 0 W
            ∗ (iprop(scratch (F := F) c ∗ zeros (F := F) c
                ∗ (pt c aF fF ∗ pt c aS fS ∗ pt c aW1 w1 ∗ pt c aW2 w2 ∗ pt c aW3 w3)
                ∗ pt c aOut (aOut.view.writes (Elt F) o L)
                ∗ (∃ W', owes (c : Thread nD τ) 0 W')) -∗ K ⟨⟩))
          ⊢ wp frame (wpE (defs₀ (F := F)) Variants.none c none) Set.univ
              (cc0__body aF (Memref.isWhole_whole _) aS (Memref.isWhole_whole _) aW1 (Memref.isWhole_whole _) aW2 (Memref.isWhole_whole _)
                aW3 (Memref.isWhole_whole _) aOut (Memref.isWhole_whole _) sRows (Memref.isWhole_whole _) sOut (Memref.isWhole_whole _)
                sW1 (Memref.isWhole_whole _) sW2 (Memref.isWhole_whole _) sW3 (Memref.isWhole_whole _) sW12 (Memref.isWhole_whole _)
                sW3n (Memref.isWhole_whole _) cc0_scratch7 cc0_scratch8 cc0_scratch9 cc0_scratch10) K } := by
  refine ⟨?_, fun o W K => ?run⟩
  case run =>
    rw [cc0__body_eq_skeleton]; unfold cc0__body_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton, k0_part10_eq_skeleton,
      k0_part11_eq_skeleton, k0_part12_eq_skeleton, k0_part13_eq_skeleton, k0_part14_eq_skeleton]
    iintro ⟨⟨G0, G1, G2, G3, G4, G5, G6⟩, ⟨Q0, Q1, Q2, Q3, Q4, Q5, Q6, Q7, Q8, Q9, Q10, Q11, Q12, Q13, Q14⟩,
      ⟨HF, HS, H1, H2, H3⟩, HO, HW, Hk⟩
    set_option sl_exec.dmaWindow true in
    sl_exec
    sl_step
    iapply Hk
    isplitl [G0 G1 G2 G3 G4 G5 G6]
    · isplitl [G0]; · iexists _; iexact G0
      isplitl [G1]; · iexists _; iexact G1
      isplitl [G2]; · iexists _; iexact G2
      isplitl [G3]; · iexists _; iexact G3
      isplitl [G4]; · iexists _; iexact G4
      isplitl [G5]; · iexists _; iexact G5
      iexists _; iexact G6
    isplitl [Q0 Q1 Q2 Q3 Q4 Q5 Q6 Q7 Q8 Q9 Q10 Q11 Q12 Q13 Q14]
    · unfold zeros
      isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      iexact Q14
    isplitl [HF HS H1 H2 H3]
    · isplitl [HF]; · iexact HF
      isplitl [HS]; · iexact HS
      isplitl [H1]; · iexact H1
      isplitl [H2]; · iexact H2
      iexact H3
    isplitl [HO]; · iexact HO
    iexists _; iexact HW

end Cert.KernelIdeal.Hand

end
-- ==== Proof.KernelIdealBlocks.lean ====
/-
  What the kernel's body leaves in the result array.

  The ten blocks of 1000 rows that `KernelIdealRun.lean` lists are the same function of the operands, `blockOut`, at block 0 … 9; the
  scratch's earlier contents are in none of them.
-/
module

public import proofs.«01_k».proof.Proof.KernelIdealRun
public import proofs.«01_k».proof.Proof.Windows
public import Idealize.ShloMosaic.Lib.Pointwise
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe
open Cert.Windows

variable {F : FTy → Type} [FloatOps F]

/-- Block `b` of the rows as the body multiplies them: row `1000·b + i` of `f` in columns 0 … 255, that row of `s` behind it. -/
def rowsOf (c : Dev nD) (fF : Held (F := F) c aF) (fS : Held (F := F) c aS) (b : Fin 10) : Vec F S1x1000x512 .f32 := fun x =>
  have h1 : (x 1).val < 1000 := (x 1).isLt
  have h2 : (x 2).val < 512 := (x 2).isLt
  if h : (x 2).val < 256 then aF.view.read (Elt F) fF (ix2 ⟨1000 * b.val + (x 1).val, by omega⟩ ⟨(x 2).val, h⟩)
  else aS.view.read (Elt F) fS (ix2 ⟨1000 * b.val + (x 1).val, by omega⟩ ⟨(x 2).val - 256, by omega⟩)

variable (c : Dev nD) (fF : Held (F := F) c aF) (fS : Held (F := F) c aS) (w1 : Held (F := F) c aW1) (w2 : Held (F := F) c aW2)
  (w3 : Held (F := F) c aW3) (g0 : Held (F := F) c sRows) (g1 : Held (F := F) c sOut) (g2 : Held (F := F) c sW1)
  (g3 : Held (F := F) c sW2) (g4 : Held (F := F) c sW3)

/-- Columns 0 … 255 of a block are `f`'s, -/
theorem rowsOf_left (b : Fin 10) (z : Fin 1) (i : Fin 1000) (j : Fin 512) (h : j.val < 256) :
    rowsOf c fF fS b (ix3 z i j) = aF.view.read (Elt F) fF (ix2 ⟨1000 * b.val + i.val, by omega⟩ ⟨j.val, h⟩) :=
  dif_pos h

/-- and columns 256 … 511 are `s`'s. -/
theorem rowsOf_right (b : Fin 10) (z : Fin 1) (i : Fin 1000) (j : Fin 512) (h : 256 ≤ j.val) :
    rowsOf c fF fS b (ix3 z i j) = aS.view.read (Elt F) fS (ix2 ⟨1000 * b.val + i.val, by omega⟩ ⟨j.val - 256, by omega⟩) :=
  dif_neg (Nat.not_lt.mpr h)

/-- Rows `k …` of a slot that rows `o …` of `s` were copied into the right half of and rows `o …` of `f` into the left half of,
    `n` rows each, are block `b` of the rows, where `o + k` is its first one. -/
theorem halves (b : Fin 10) (o n k : ℕ) (hb : o + k = 1000 * b.val) (hk : k + 1000 ≤ n)
    (inb : ∀ a, (![o, 0] : Fin 2 → ℕ) a + (![n, 256] : Fin 2 → ℕ) a ≤ S10000x256.size a) (junk : Elt F .f32)
    (z : Fin 1) (i : Fin 1000) (j : Fin 512) :
    (if h : (0 ≤ k + i.val ∧ k + i.val < 0 + n) ∧ 256 ≤ 0 + j.val ∧ 0 + j.val < 256 + 256 then
        (aS.view.slice (Rect.unit (s := S10000x256) ![o, 0] ![n, 256] inb)).read (Elt F) fS
          (ix2 ⟨k + i.val - 0, by omega⟩ ⟨0 + j.val - 256, by omega⟩)
      else if h : (0 ≤ k + i.val ∧ k + i.val < 0 + n) ∧ 0 ≤ 0 + j.val ∧ 0 + j.val < 0 + 256 then
        (aF.view.slice (Rect.unit (s := S10000x256) ![o, 0] ![n, 256] inb)).read (Elt F) fF
          (ix2 ⟨k + i.val - 0, by omega⟩ ⟨0 + j.val - 0, by omega⟩)
      else junk) = rowsOf c fF fS b (ix3 z i j) := by
  have hj : j.val < 512 := j.isLt
  have hi : i.val < 1000 := i.isLt
  have hbn : b.val < 10 := b.isLt
  by_cases h : j.val < 256
  · rw [dif_neg (by omega), dif_pos (by omega), read_rows _ _ _ _ _ _ _ (by dsimp only; omega) (by dsimp only; omega)]
    refine Eq.trans (congrArg _ ?_) (rowsOf_left c fF fS b z i j h).symm
    congr 1 <;> refine Fin.ext ?_ <;> dsimp only [ix3_1, ix3_2] <;> omega
  · rw [dif_pos (by omega), read_rows _ _ _ _ _ _ _ (by dsimp only; omega) (by dsimp only; omega)]
    refine Eq.trans (congrArg _ ?_) (rowsOf_right c fF fS b z i j (by omega)).symm
    congr 1 <;> refine Fin.ext ?_ <;> dsimp only [ix3_1, ix3_2] <;> omega

/-- The loads of the ten blocks of rows: each is its block, whichever slot it is in and whatever the other slots hold. -/
theorem loads :
    (kernelRun.sl.v71 c fF fS g0 = rowsOf c fF fS 0 ∧ kernelRun.sl.v109 c fF fS g0 = rowsOf c fF fS 1
      ∧ kernelRun.sl.v127 c fF fS g0 = rowsOf c fF fS 2 ∧ kernelRun.sl.v165 c fF fS g0 = rowsOf c fF fS 3
      ∧ kernelRun.sl.v183 c fF fS g0 = rowsOf c fF fS 4)
    ∧ (kernelRun.sl.v226 c fF fS g0 = rowsOf c fF fS 5 ∧ kernelRun.sl.v244 c fF fS g0 = rowsOf c fF fS 6
      ∧ kernelRun.sl.v282 c fF fS g0 = rowsOf c fF fS 7 ∧ kernelRun.sl.v300 c fF fS g0 = rowsOf c fF fS 8
      ∧ kernelRun.sl.v338 c fF fS g0 = rowsOf c fF fS 9) := by
  refine ⟨⟨?_, ?_, ?_, ?_, ?_⟩, ?_, ?_, ?_, ?_, ?_⟩ <;>
    (funext x
     have h1 : (x 1).val < 1000 := (x 1).isLt
     have h2 : (x 2).val < 512 := (x 2).isLt
     rw [eq_ix3 x]
     refine (load_box sRows.view _ _ _ _ _ (x 0) (x 1) (x 2) (by decide) (by omega) (by omega)).trans ?_
     -- the windows of other slots are dropped
     simp only [read_copied, Nat.reduceEqDiff, OfNat.ofNat_ne_zero, OfNat.ofNat_ne_one, OfNat.one_ne_ofNat, OfNat.zero_ne_ofNat,
       one_ne_zero, zero_ne_one, false_and, true_and, ↓reduceDIte])
  · exact halves c fF fS 0 0 1000 0 rfl (by decide) _ _ _ _ _
  · exact halves c fF fS 1 1000 2000 0 rfl (by decide) _ _ _ _ _
  · exact halves c fF fS 2 1000 2000 1000 rfl (by decide) _ _ _ _ _
  · exact halves c fF fS 3 3000 2000 0 rfl (by decide) _ _ _ _ _
  · exact halves c fF fS 4 3000 2000 1000 rfl (by decide) _ _ _ _ _
  · exact halves c fF fS 5 5000 2000 0 rfl (by decide) _ _ _ _ _
  · exact halves c fF fS 6 5000 2000 1000 rfl (by decide) _ _ _ _ _
  · exact halves c fF fS 7 7000 2000 0 rfl (by decide) _ _ _ _ _
  · exact halves c fF fS 8 7000 2000 1000 rfl (by decide) _ _ _ _ _
  · exact halves c fF fS 9 9000 1000 0 rfl (by decide) _ _ _ _ _

/-! ## The weights on chip -/

/-- The first two weight matrices scaled and narrowed, the second below the first. -/
def stack (c : Dev nD) (w1 : Held (F := F) c aW1) (w2 : Held (F := F) c aW2) : Vec F S512x512 .bf16 := fun x =>
  have h0 : (x 0).val < 512 := (x 0).isLt
  if h : (x 0).val < 256 then k0_pay1 (aW1.view.read (Elt F) w1) (ix2 ⟨(x 0).val, h⟩ (x 1))
  else k0_pay2 (aW2.view.read (Elt F) w2) (ix2 ⟨(x 0).val - 256, by omega⟩ (x 1))

/-- Rows 0 … 255 of the stack are the first matrix's, -/
theorem stack_upper (i : Fin 512) (j : Fin 512) (h : i.val < 256) :
    stack c w1 w2 (ix2 i j) = k0_pay1 (aW1.view.read (Elt F) w1) (ix2 ⟨i.val, h⟩ j) :=
  dif_pos h

/-- and rows 256 … 511 the second one's. -/
theorem stack_lower (i : Fin 512) (j : Fin 512) (h : 256 ≤ i.val) :
    stack c w1 w2 (ix2 i j) = k0_pay2 (aW2.view.read (Elt F) w2) (ix2 ⟨i.val - 256, by omega⟩ j) :=
  dif_neg (Nat.not_lt.mpr h)

/-- The two matrices stored one after the other are loaded as the stack. -/
theorem load_stack : kernelRun.sl.v74 c w1 w2 g2 g3 = stack c w1 w2 := by
  unfold kernelRun.sl.v74 kernelRun.sl.G5_2 View.readCov
  rw [View.readAt_full sW12.view, View.readAt_full sW1.view, View.readAt_full sW2.view, View.read_write_univ, View.read_write_univ]
  funext x
  rw [eq_ix2 x]
  refine (read_written_rows sW12.view _ 256 _ _ _ (x 0) (x 1)).trans ?_
  have h0 : (x 0).val < 512 := (x 0).isLt
  by_cases h : (x 0).val < 256
  · rw [dif_neg (by omega)]
    refine (read_written_rows sW12.view _ 0 _ _ _ (x 0) (x 1)).trans ?_
    rw [dif_pos (by omega)]
    exact (stack_upper c w1 w2 (x 0) (x 1) h).symm
  · rw [dif_pos (by omega)]
    exact (stack_lower c w1 w2 (x 0) (x 1) (by omega)).symm

/-- The third matrix is loaded as it was narrowed. -/
theorem load_narrow : kernelRun.sl.v79 c w3 g4 = k0_pay3 (aW3.view.read (Elt F) w3) := by
  unfold kernelRun.sl.v79 kernelRun.sl.G6_1
  rw [View.readCov_full sW3n.view, View.readAt_full sW3.view, View.read_write_univ]
  rfl

/-! ## The result -/

/-- Block `b` of the result: the rows' block times the stacked weights, its negative entries made zero, times the third
    matrix. -/
def blockOut (b : Fin 10) : FVec F S1x1000x256 .f32 :=
  k0_pay6 (rowsOf c fF fS b) (stack c w1 w2) (k0_pay3 (aW3.view.read (Elt F) w3))

/-- The result: row `i` is row `i mod 1000` of block `i / 1000`. -/
def result : Held (F := F) c aOut := fun y =>
  have h0 : (y 0).val < 10000 := (y 0).isLt
  blockOut c fF fS w1 w2 w3 ⟨(y 0).val / 1000, by omega⟩ (ix3 (0 : Fin 1) ⟨(y 0).val % 1000, by omega⟩ (y 1))

/-- The block with the slot's axis dropped, as it is copied out. -/
def rowsOut (b : Fin 10) : Vec F S1000x256 .f32 := fun x => blockOut c fF fS w1 w2 w3 b (ix3 (0 : Fin 1) (x 0) (x 1))

/-- Each copy out carries its block. -/
theorem copies :
    (kernelRun.sl.dma14 c fF fS w1 w2 w3 g0 g1 g2 g3 g4 = rowsOut c fF fS w1 w2 w3 0
      ∧ kernelRun.sl.dma19 c fF fS w1 w2 w3 g0 g1 g2 g3 g4 = rowsOut c fF fS w1 w2 w3 1
      ∧ kernelRun.sl.dma24 c fF fS w1 w2 w3 g0 g1 g2 g3 g4 = rowsOut c fF fS w1 w2 w3 2
      ∧ kernelRun.sl.dma29 c fF fS w1 w2 w3 g0 g1 g2 g3 g4 = rowsOut c fF fS w1 w2 w3 3
      ∧ kernelRun.sl.dma34 c fF fS w1 w2 w3 g0 g1 g2 g3 g4 = rowsOut c fF fS w1 w2 w3 4)
    ∧ (kernelRun.sl.dma39 c fF fS w1 w2 w3 g0 g1 g2 g3 g4 = rowsOut c fF fS w1 w2 w3 5
      ∧ kernelRun.sl.dma44 c fF fS w1 w2 w3 g0 g1 g2 g3 g4 = rowsOut c fF fS w1 w2 w3 6
      ∧ kernelRun.sl.dma49 c fF fS w1 w2 w3 g0 g1 g2 g3 g4 = rowsOut c fF fS w1 w2 w3 7
      ∧ kernelRun.sl.dma54 c fF fS w1 w2 w3 g0 g1 g2 g3 g4 = rowsOut c fF fS w1 w2 w3 8
      ∧ kernelRun.sl.dma59 c fF fS w1 w2 w3 g0 g1 g2 g3 g4 = rowsOut c fF fS w1 w2 w3 9) := by
  obtain ⟨⟨l0, l1, l2, l3, l4⟩, l5, l6, l7, l8, l9⟩ := loads c fF fS g0
  have eS := load_stack c w1 w2 g2 g3
  have eN := load_narrow c w3 g4
  refine ⟨⟨?_, ?_, ?_, ?_, ?_⟩, ?_, ?_, ?_, ?_, ?_⟩ <;>
    (funext x
     rw [eq_ix2 x]
     refine (read_stored sOut.view _ _ _ _ _ _ _ _ (x 0) (x 1)).trans ?_
     unfold rowsOut blockOut
     simp only [kernelRun.sl.r, kernelRun.sl.r_2, kernelRun.sl.r_3, kernelRun.sl.r_4, kernelRun.sl.r_5, l0, l1, l2, l3, l4, l5, l6, l7, l8, l9, eS, eN]
     rfl)

/-- A row is in its block. -/
theorem result_row (b : Fin 10) (i : Fin 10000) (j : Fin 256) (h : 1000 * b.val ≤ i.val ∧ i.val < 1000 * b.val + 1000) :
    rowsOut c fF fS w1 w2 w3 b (ix2 ⟨i.val - 1000 * b.val, by omega⟩ j) = result c fF fS w1 w2 w3 (ix2 i j) := by
  have e : (⟨i.val / 1000, by omega⟩ : Fin 10) = b := Fin.ext (show i.val / 1000 = b.val by omega)
  show blockOut c fF fS w1 w2 w3 b _ = blockOut c fF fS w1 w2 w3 ⟨i.val / 1000, by omega⟩ _
  rw [e]
  exact congrArg (blockOut c fF fS w1 w2 w3 b) (Shape.idx3_ext rfl (show i.val - 1000 * b.val = i.val % 1000 by omega) rfl)

/-- After block `b`, the rows from `n` on, was written last, the array reads `result` wherever it does so in the rows off the
    block. -/
theorem written_block (b : Fin 10) (n : ℕ) (hn : 1000 * b.val = n) (o : Held (F := F) c aOut) (L : List (View.Piece (Elt F) S10000x256 .f32))
    (i : Fin 10000) (j : Fin 256) (inb : ∀ a, (![n, 0] : Fin 2 → ℕ) a + S1000x256.size a ≤ S10000x256.size a)
    (h : ¬ (n ≤ i.val ∧ i.val < n + 1000) →
      aOut.view.read (Elt F) (aOut.view.writes (Elt F) o L) (ix2 i j) = result c fF fS w1 w2 w3 (ix2 i j)) :
    aOut.view.read (Elt F) (aOut.view.writes (Elt F) o
        ((⟨Rect.unit (s := S10000x256) ![n, 0] S1000x256.size inb, rowsOut c fF fS w1 w2 w3 b⟩ : View.Piece (Elt F) S10000x256 .f32) :: L)) (ix2 i j)
      = result c fF fS w1 w2 w3 (ix2 i j) := by
  subst hn
  refine (read_written_rows aOut.view o (1000 * b.val) inb _ L i j).trans ?_
  split_ifs with hb
  · exact result_row c fF fS w1 w2 w3 b i j hb
  · exact h hb

/-- The ten blocks the run writes into the result array, the last one first. -/
theorem pieces (g5 : Held (F := F) c sW12) (g6 : Held (F := F) c sW3n) :
    (kernelRun c fF fS w1 w2 w3 g0 g1 g2 g3 g4 g5 g6).1 =
      [⟨Rect.unit (s := S10000x256) ![9000, 0] S1000x256.size inb_S10000x256_S1000x256_9000_0, rowsOut c fF fS w1 w2 w3 9⟩,
       ⟨Rect.unit (s := S10000x256) ![8000, 0] S1000x256.size inb_S10000x256_S1000x256_8000_0, rowsOut c fF fS w1 w2 w3 8⟩,
       ⟨Rect.unit (s := S10000x256) ![7000, 0] S1000x256.size inb_S10000x256_S1000x256_7000_0, rowsOut c fF fS w1 w2 w3 7⟩,
       ⟨Rect.unit (s := S10000x256) ![6000, 0] S1000x256.size inb_S10000x256_S1000x256_6000_0, rowsOut c fF fS w1 w2 w3 6⟩,
       ⟨Rect.unit (s := S10000x256) ![5000, 0] S1000x256.size inb_S10000x256_S1000x256_5000_0, rowsOut c fF fS w1 w2 w3 5⟩,
       ⟨Rect.unit (s := S10000x256) ![4000, 0] S1000x256.size inb_S10000x256_S1000x256_4000_0, rowsOut c fF fS w1 w2 w3 4⟩,
       ⟨Rect.unit (s := S10000x256) ![3000, 0] S1000x256.size inb_S10000x256_S1000x256_3000_0, rowsOut c fF fS w1 w2 w3 3⟩,
       ⟨Rect.unit (s := S10000x256) ![2000, 0] S1000x256.size inb_S10000x256_S1000x256_2000_0, rowsOut c fF fS w1 w2 w3 2⟩,
       ⟨Rect.unit (s := S10000x256) ![1000, 0] S1000x256.size inb_S10000x256_S1000x256_1000_0, rowsOut c fF fS w1 w2 w3 1⟩,
       ⟨Rect.unit (s := S10000x256) ![0, 0] S1000x256.size inb_S10000x256_S1000x256_0_0, rowsOut c fF fS w1 w2 w3 0⟩] := by
  obtain ⟨⟨d0, d1, d2, d3, d4⟩, d5, d6, d7, d8, d9⟩ := copies c fF fS w1 w2 w3 g0 g1 g2 g3 g4
  rw [← d0, ← d1, ← d2, ← d3, ← d4, ← d5, ← d6, ← d7, ← d8, ← d9]
  rfl

/-- The run overwrites the whole result array, whatever it held, with `result`. -/
theorem written (g5 : Held (F := F) c sW12) (g6 : Held (F := F) c sW3n) (o : Held (F := F) c aOut) :
    aOut.view.writes (Elt F) o (kernelRun c fF fS w1 w2 w3 g0 g1 g2 g3 g4 g5 g6).1 = result c fF fS w1 w2 w3 := by
  rw [pieces]
  have next := written_block c fF fS w1 w2 w3
  funext y
  obtain ⟨i, j, rfl⟩ : ∃ (i : Fin 10000) (j : Fin 256), y = ix2 i j := ⟨y 0, y 1, eq_ix2 y⟩
  refine (congrFun (View.read_whole (Val := Elt F) main_v0 _).symm (ix2 i j)).trans ?_
  refine next 9 9000 rfl o _ i j _ fun h9 => ?_
  refine next 8 8000 rfl o _ i j _ fun h8 => ?_
  refine next 7 7000 rfl o _ i j _ fun h7 => ?_
  refine next 6 6000 rfl o _ i j _ fun h6 => ?_
  refine next 5 5000 rfl o _ i j _ fun h5 => ?_
  refine next 4 4000 rfl o _ i j _ fun h4 => ?_
  refine next 3 3000 rfl o _ i j _ fun h3 => ?_
  refine next 2 2000 rfl o _ i j _ fun h2 => ?_
  refine next 1 1000 rfl o _ i j _ fun h1 => ?_
  refine next 0 0 rfl o _ i j _ fun h0 => ?_
  exact absurd i.isLt (by omega)

end Cert.KernelIdeal.Hand
-- ==== Proof.KernelIdealLaunch.lean ====
/-
  The launch: the whole program from its first instruction to its last.

  Nothing is staged for this kernel: it is handed its five matrices, its result array, its scratch and its fifteen counters,
  and `KernelIdealRun.lean`'s run is all of it. Afterwards every argument is as it was, every counter is at zero and the result array is
  `KernelIdealBlocks.lean`'s `result` of the arguments.
-/
module

public import proofs.«01_k».proof.Proof.KernelIdealBlocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The logic's resources. -/
local notation "𝕄" => MT nD τ sig Unit (Elt F) ℕ (Pipeline.UD sig nD τ) ℕ

variable (m : (ℓ : Loc nD τ sig) → Buf (Elt F) ℓ) (ρ : Dev nD → PrngReg)

/-! ## What the body is handed -/

/-- The arrays at the launch. -/
abbrev V (c : Dev nD) (b : Ref sig .tc) : Buf (Elt F) ((c : Thread nD τ).loc b) := m ((c : Thread nD τ).loc b)

/-- The result of the launch's arguments on core `c`. -/
def resultOf (c : Dev nD) : Buf (Elt F) ((c : Thread nD τ).loc main_v0) :=
  result c (V m c main_arg0) (V m c main_arg1) (V m c main_arg3) (V m c main_arg5) (V m c main_arg7)

/-- The arrays after the run: the result array holds the result. -/
def G (c : Dev nD) : (b : Ref sig .tc) → Buf (Elt F) ((c : Thread nD τ).loc b) :=
  Function.update (V m c) main_v0 (resultOf m c)

/-- The arrays the body reads. -/
def H0 : Finset (Ref sig .tc) := {main_arg0, main_arg1, main_arg3, main_arg5, main_arg7}
/-- The array it writes. -/
def R0 : Finset (Ref sig .tc) := {main_v0}
theorem H0_sub : H0 ⊆ Pipeline.restRefs sig cfg0.spec := by decide
theorem R0_sub : R0 ⊆ Pipeline.restRefs sig cfg0.spec \ H0 := by decide

/-- The kernel's fifteen counters. -/
abbrev osem0 : Fin 15 → SemLoc sig := fun j => SemLoc.dma j
theorem ownSemFacts0 : Pipeline.OwnSemFacts cfg0.spec osem0 := by decide
theorem ownSems_eq (c : Dev nD) :
    (Pipeline.ownSems0 (Ix := Unit) (Name := ℕ) (U := Pipeline.UD sig nD τ) (Lvl := ℕ) (Val := Elt F) (τ := τ) osem0 c : sProp 𝕄) = zeros (F := F) c := by
  rw [Pipeline.ownSems0_eq_of_list c osem0 [0, 1, 2, 3, 4, 5, 6, 7, 8, 9, 10, 11, 12, 13, 14] (by decide) (by decide)]; rfl

theorem args_eq (c : Dev nD) :
    (bigSep H0 (fun b => ((c : Thread nD τ).loc b) ↦{fullShare} V m c b) : sProp 𝕄)
      = iprop(pt c aF (V m c main_arg0) ∗ pt c aS (V m c main_arg1) ∗ pt c aW1 (V m c main_arg3) ∗ pt c aW2 (V m c main_arg5)
          ∗ pt c aW3 (V m c main_arg7)) := by
  rw [BI.bigSep_eq_bigSepL_of_eq [main_arg0, main_arg1, main_arg3, main_arg5, main_arg7] (by decide) (by decide)]; rfl

/-- What the body holds with the result array at contents `X`: the scratch at anything, the counters at zero, the arguments at
    the launch's contents. -/
theorem held_eq (X : (c : Dev nD) → (b : Ref sig .tc) → Buf (Elt F) ((c : Thread nD τ).loc b)) (c : Dev nD) :
    (Pipeline.ΦDRG osem0 cfg0.spec H0 R0 (V m) X c : sProp 𝕄)
      = iprop(scratch (F := F) c ∗ (∃ r, prngReg c r) ∗ zeros (F := F) c
          ∗ (pt c aF (V m c main_arg0) ∗ pt c aS (V m c main_arg1) ∗ pt c aW1 (V m c main_arg3) ∗ pt c aW2 (V m c main_arg5)
            ∗ pt c aW3 (V m c main_arg7))
          ∗ pt c aOut (X c main_v0)) := by
  rw [Pipeline.ΦDRG_eq, scopedRest0_eq, ownSems_eq, args_eq, show R0 = {main_v0} from rfl, Pipeline.routed_singleton]

/-! ## The one grid point -/

/-- The proof's data: no window, what the body holds before (the result array as launched) and after (holding the result),
    nothing owed. -/
def dats (_ : Fin 1) (c : Dev nD) : Dat τ (Elt F) Unit ℕ (Pipeline.UD sig nD τ) ℕ cfg0 c where
  A w := w.elim0
  after w _ := w.elim0
  Φ t := Pipeline.ΦDRG osem0 cfg0.spec H0 R0 (V m) (if t.val = 0 then V m else G m) c
  q _ := fullShare
  owed _ := 0

theorem A_eq (c : Dev nD) (w : Fin cfg0.W) : (dats m 0 c).A w = V m c (Pipeline.arrRef cfg0.spec w) := w.elim0

/-- There is no window to hold. -/
theorem no_windows (Ψ : Fin cfg0.W → sProp 𝕄) : bigSep Finset.univ Ψ = iprop(emp) := by
  rw [show (Finset.univ : Finset (Fin cfg0.W)) = ∅ from rfl]
  exact bigSep_empty

/-- The body from what it holds before to what it holds after. -/
theorem sound_body (c : Dev nD) (t : Fin cfg0.N) :
    iprop((dats m 0 c).Φ t.castSucc ∗ (dats m 0 c).owesAt () t.castSucc ∗ emp)
      ⊢ wp frame (wpE (defs₀ (F := F)) Variants.none c none) Set.univ (bodyAt0 t)
          (fun _ => iprop((dats m 0 c).Φ t.succ ∗ (dats m 0 c).owesAt () t.succ ∗ emp)) := by
  obtain rfl := fin_N0 t
  unfold bodyAt0
  rw [show (dats m 0 c).Φ t0_0.castSucc = Pipeline.ΦDRG osem0 cfg0.spec H0 R0 (V m) (V m) c from rfl,
    show (dats m 0 c).Φ t0_0.succ = Pipeline.ΦDRG osem0 cfg0.spec H0 R0 (V m) (G m) c from rfl, held_eq, held_eq,
    show G m c main_v0 = resultOf m c from Function.update_self ..]
  unfold Dat.owesAt Pipeline.owesWithin
  rw [show (dats m 0 c).owed t0_0.castSucc = 0 from rfl, show (dats m 0 c).owed t0_0.succ = 0 from rfl]
  iintro ⟨⟨⟨⟨%g0, H0⟩, ⟨%g1, H1⟩, ⟨%g2, H2⟩, ⟨%g3, H3⟩, ⟨%g4, H4⟩, ⟨%g5, H5⟩, ⟨%g6, H6⟩⟩, Hg, Hq, Ha, Ho⟩, ⟨%W, -, HW⟩, -⟩
  iapply ((kernelRun c (V m c main_arg0) (V m c main_arg1) (V m c main_arg3) (V m c main_arg5) (V m c main_arg7) g0 g1 g2 g3 g4 g5 g6).2
    (V m c main_v0) W _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [Hq]; · iexact Hq
  isplitl [Ha]; · iexact Ha
  isplitl [Ho]; · iexact Ho
  isplitl [HW]; · iexact HW
  rw [written]
  iintro ⟨Hs, Hq, Ha, Ho, ⟨%W', HW'⟩⟩
  isplitl [Hs Hg Hq Ha Ho]
  · isplitl [Hs]; · iexact Hs
    isplitl [Hg]; · iexact Hg
    isplitl [Hq]; · iexact Hq
    isplitl [Ha]; · iexact Ha
    iexact Ho
  isplitl [HW']
  · iexists W'; isplitr; · ipureintro; exact fun _ _ => Or.inl trivial
    iexact HW'
  exact .rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [no_windows, no_windows, defs₀_row]
  exact sound_body m c t

/-! ## The run -/

theorem hmain (𝒱₀ : Variants) :
    Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl) (hQ' := fun _ h => h)

/-- An argument is not the result array: the run leaves it as it was. -/
theorem kept {r : PUnit × MemSt nD τ sig (Elt F)} (h : Pipeline.FramePostRG cfgs (dats m) 0 R0 (V m) (G m) r) (c : Dev nD)
    (b : Ref sig .tc) (hb : b ∈ Pipeline.restRefs sig cfg0.spec \ R0) :
    r.2.mem ((c.tc : Thread nD τ).loc b) = m ((c.tc : Thread nD τ).loc b) :=
  (h.toR c).2 b hb

/-- The program runs to its end: the result array holds the result, every argument is as it was and every counter is at zero. -/
theorem runs : θ_run defs (onTc (τ := τ) (main (F := F))) ⟨m, fun _ => 0, ρ⟩ (fun r => (∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩) (run_main m ρ)
  have k := kept m h.1 c
  refine ⟨(h.1.written c (b := main_v0) (by decide)).trans (Function.update_self ..), ?_⟩
  exact ⟨k main_arg0 (by decide), k main_arg1 (by decide), k main_arg2 (by decide), k main_arg3 (by decide), k main_arg4 (by decide),
    k main_arg5 (by decide), k main_arg6 (by decide), k main_arg7 (by decide), k main_arg8 (by decide)⟩

end Cert.KernelIdeal.Hand
-- ==== Proof.Network.lean ====
/-
  The mathematics: one entry of the network over the extended reals, and the one law of arithmetic its two spellings differ by.

  No program is named here.
-/
module

public import Idealize.ShloMosaic.Lib.Pointwise
public import Idealize.ShloMosaic.Lib.IdealHost

@[expose] public section

noncomputable section

namespace Cert.Network

open Idealize.ShloMosaic

/-- A matrix held in an array, by row and column. -/
def mat {a b : ℕ} (x : (⟨2, ![a, b]⟩ : Shape).Idx → EReal) (i : Fin a) (j : Fin b) : EReal := x (ix2 i j)

/-- The weight of the first input, the 32-bit number nearest to 0.8. -/
abbrev weightF : EReal := Ideal.ofBits .f32 0x3F4CCCCD#32
/-- The weight of the second, the 32-bit number nearest to 0.2. -/
abbrev weightS : EReal := Ideal.ofBits .f32 0x3E4CCCCD#32

/-- Hidden unit `k` of row `r`: the weighted sum of the two inputs' products with their layers, cut off below at zero. -/
def hidden (f s : Fin 10000 → Fin 256 → EReal) (W1 W2 : Fin 256 → Fin 512 → EReal) (r : Fin 10000) (k : Fin 512) : EReal :=
  max (weightF * (∑ q, f r q * W1 q k) + weightS * (∑ q, s r q * W2 q k)) 0

/-- Entry `(r, j)` of the network's result: the hidden row times column `j` of the last layer. -/
def entry (f s : Fin 10000 → Fin 256 → EReal) (W1 W2 : Fin 256 → Fin 512 → EReal) (W3 : Fin 512 → Fin 256 → EReal)
    (r : Fin 10000) (j : Fin 256) : EReal :=
  ∑ k, hidden f s W1 W2 r k * W3 k j

/-- A factor that is neither negative nor infinite goes into a sum of extended reals, whatever the terms are. -/
theorem mul_sum_of_finite {ι : Type*} (t : Finset ι) {a : EReal} (h0 : 0 ≤ a) (h1 : a ≠ ⊤) (x : ι → EReal) :
    a * ∑ q ∈ t, x q = ∑ q ∈ t, a * x q := by
  classical
  induction t using Finset.induction_on with
  | empty => simp
  | insert q t hq ih =>
    rw [Finset.sum_insert hq, Finset.sum_insert hq, EReal.left_distrib_of_nonneg_of_ne_top h0 h1, ih]

/-- So scaling a layer's weights scales its product. -/
theorem scaled_layer {a : EReal} (h0 : 0 ≤ a) (h1 : a ≠ ⊤) (x w : Fin 256 → EReal) :
    ∑ q, x q * (a * w q) = a * ∑ q, x q * w q := by
  rw [mul_sum_of_finite _ h0 h1]
  exact Finset.sum_congr rfl fun q _ => mul_left_comm _ _ _

/-- The two weights are real numbers: neither negative nor infinite. -/
theorem weightF_eq : weightF = ((13421773 / 16777216 : ℝ) : EReal) := by
  simp [weightF, Ideal.ofBits, Ideal.ieee, -EReal.coe_mul]; norm_num

theorem weightS_eq : weightS = ((13421773 / 67108864 : ℝ) : EReal) := by
  simp [weightS, Ideal.ofBits, Ideal.ieee, -EReal.coe_mul]; norm_num

theorem weightF_nonneg : 0 ≤ weightF := weightF_eq ▸ EReal.coe_nonneg.mpr (by norm_num)
theorem weightF_ne_top : weightF ≠ ⊤ := weightF_eq ▸ EReal.coe_ne_top _
theorem weightS_nonneg : 0 ≤ weightS := weightS_eq ▸ EReal.coe_nonneg.mpr (by norm_num)
theorem weightS_ne_top : weightS ≠ ⊤ := weightS_eq ▸ EReal.coe_ne_top _

end Cert.Network
-- ==== Proof.KernelValue.lean ====
/-
  The kernel's result over the extended reals, entry by entry.

  The body multiplies the two inputs side by side with the two weighted weight matrices on top of each other: one sum over 512
  positions, which is the two inputs' sums over 256 positions each, the weights taken out of them.
-/
module

public import proofs.«01_k».proof.Proof.KernelIdealLaunch
public import proofs.«01_k».proof.Proof.Network

@[expose] public section

set_option maxRecDepth 16384

noncomputable section

namespace Cert.KernelIdeal.Hand

open Cert.KernelIdeal Cert.KernelIdeal.Gen
open Idealize.ShloMosaic Idealize.ShloMosaic.TcCoe
open Cert.Network

/-! ## What one block computes -/

/-- The block's two products: the rows with the stack, cut off below at zero, and that with the last matrix. -/
theorem block_entry (x : Vec Ideal S1x1000x512 .f32) (w : Vec Ideal S512x512 .bf16) (w3 : Vec Ideal S512x256 .bf16)
    (i : Fin 1000) (j : Fin 256) :
    (k0_pay6 x w w3 (ix3 (0 : Fin 1) i j) : EReal)
      = ∑ k : Fin 512, max (∑ q : Fin 512, (x (ix3 (0 : Fin 1) i q) : EReal) * w (ix2 q k)) 0 * (w3 (ix2 k j) : EReal) := by
  pointwise [k0_pay6]

/-- The first matrix is stored times its weight, -/
theorem upper_entry (v : Vec Ideal S256x512 .f32) (i : Fin 256) (j : Fin 512) :
    (k0_pay1 v (ix2 i j) : EReal) = weightF * (v (ix2 i j) : EReal) := by
  pointwise [k0_pay1]

/-- the second times its own, -/
theorem lower_entry (v : Vec Ideal S256x512 .f32) (i : Fin 256) (j : Fin 512) :
    (k0_pay2 v (ix2 i j) : EReal) = weightS * (v (ix2 i j) : EReal) := by
  pointwise [k0_pay2]

/-- and the third as it is. -/
theorem last_entry (v : Vec Ideal S512x256 .f32) (i : Fin 512) (j : Fin 256) :
    (k0_pay3 v (ix2 i j) : EReal) = (v (ix2 i j) : EReal) := by
  pointwise [k0_pay3]

/-! ## The result -/

variable (c : Dev nD) (fF : Held (F := Ideal) c aF) (fS : Held (F := Ideal) c aS) (w1 : Held (F := Ideal) c aW1)
  (w2 : Held (F := Ideal) c aW2) (w3 : Held (F := Ideal) c aW3)

/-- A hidden unit of row `i` of block `b`, before it is cut off: the first input's sum times its weight plus the second's. -/
theorem hidden_entry (b : Fin 10) (i : Fin 1000) (k : Fin 512) (r : Fin 10000) (hr : r.val = 1000 * b.val + i.val) :
    ∑ q : Fin 512, (rowsOf c fF fS b (ix3 (0 : Fin 1) i q) : EReal) * stack c w1 w2 (ix2 q k)
      = weightF * (∑ q : Fin 256, mat (a := 10000) fF r q * mat (a := 256) w1 q k)
        + weightS * (∑ q : Fin 256, mat (a := 10000) fS r q * mat (a := 256) w2 q k) := by
  obtain ⟨r, h⟩ := r
  obtain rfl : r = 1000 * b.val + i.val := hr
  rw [Fin.sum_univ_two_halves 256 256 rfl]
  refine congrArg₂ (· + ·) (Eq.trans (Finset.sum_congr rfl fun q _ => ?_) (scaled_layer weightF_nonneg weightF_ne_top _ _))
    (Eq.trans (Finset.sum_congr rfl fun q _ => ?_) (scaled_layer weightS_nonneg weightS_ne_top _ _))
  · rw [rowsOf_left c fF fS b 0 i _ q.isLt, stack_upper c w1 w2 _ k q.isLt, upper_entry]
    rfl
  · rw [rowsOf_right c fF fS b 0 i _ (Nat.le_add_right _ _), stack_lower c w1 w2 _ k (Nat.le_add_right _ _), lower_entry]
    have e : ∀ h, (⟨256 + q.val - 256, h⟩ : Fin 256) = q := fun _ => Fin.ext (Nat.add_sub_cancel_left _ _)
    simp only [e]
    rfl

/-- Entry `(r, j)` of the kernel's result is the network's. -/
theorem result_entry (r : Fin 10000) (j : Fin 256) :
    (result c fF fS w1 w2 w3 (ix2 r j) : EReal)
      = entry (mat fF) (mat fS) (mat w1) (mat w2) (mat w3) r j := by
  have hr : r.val < 10000 := r.isLt
  show (k0_pay6 (rowsOf c fF fS ⟨r.val / 1000, by omega⟩) (stack c w1 w2) (k0_pay3 (aW3.view.read (Elt Ideal) w3))
    (ix3 (0 : Fin 1) ⟨r.val % 1000, by omega⟩ j) : EReal) = _
  refine (block_entry _ _ _ _ _).trans (Finset.sum_congr rfl fun k _ => ?_)
  rw [hidden_entry c fF fS w1 w2 _ _ k r (Nat.div_add_mod _ _).symm, last_entry]
  rfl

end Cert.KernelIdeal.Hand
-- ==== Proof.ReferenceValue.lean ====
/-
  The reference's result over the extended reals, entry by entry, when the biases are zero.
-/
module

public import proofs.«01_k».proof.Proof.Gen.ReferenceIdeal.Run
public import proofs.«01_k».proof.Proof.Gen.Pre_zero_biases
public import proofs.«01_k».proof.Proof.Network

@[expose] public section

set_option maxRecDepth 16384

noncomputable section

namespace Cert.ReferenceIdeal.Value

open Cert.ReferenceIdeal Cert.ReferenceIdeal.Gen
open Idealize.ShloMosaic
open Cert.Network

/-- What the reference computes of its eight arrays. -/
def refResult (f s : FVec Ideal S10000x256 .f32) (W1 : FVec Ideal S256x512 .f32) (b1 : FVec Ideal S512 .f32)
    (W2 : FVec Ideal S256x512 .f32) (b2 : FVec Ideal S512 .f32) (W3 : FVec Ideal S512x256 .f32) (b3 : FVec Ideal S256 .f32) :
    FVec Ideal S10000x256 .f32 :=
  addf (Host.dotGeneral dot_S10000x512_S512x256_S10000x256_1_0_0_1_n_n none
      (maximumf
        (addf
          (mulf (broadcastInDim S10000x512 ![] bcast_S_S10000x512 (constant S_ .f32 0x3F4CCCCD#32))
            (addf (Host.dotGeneral dot_S10000x256_S256x512_S10000x512_1_0_0_1_n_n none f W1)
              (broadcastInDim S10000x512 ![0, 1] bcast_S1x512_S10000x512_0_1 (broadcastInDim S1x512 ![1] bcast_S512_S1x512_1 b1))))
          (mulf (broadcastInDim S10000x512 ![] bcast_S_S10000x512 (constant S_ .f32 0x3E4CCCCD#32))
            (addf (Host.dotGeneral dot_S10000x256_S256x512_S10000x512_1_0_0_1_n_n none s W2)
              (broadcastInDim S10000x512 ![0, 1] bcast_S1x512_S10000x512_0_1 (broadcastInDim S1x512 ![1] bcast_S512_S1x512_1 b2)))))
        (broadcastInDim S10000x512 ![] bcast_S_S10000x512 (constant S_ .f32 0x00000000#32))) W3)
    (broadcastInDim S10000x256 ![0, 1] bcast_S1x256_S10000x256_0_1 (broadcastInDim S1x256 ![1] bcast_S256_S1x256_1 b3))

variable (f s : FVec Ideal S10000x256 .f32) (W1 : FVec Ideal S256x512 .f32) (b1 : FVec Ideal S512 .f32)
  (W2 : FVec Ideal S256x512 .f32) (b2 : FVec Ideal S512 .f32) (W3 : FVec Ideal S512x256 .f32) (b3 : FVec Ideal S256 .f32)

/-- Entry `(r, j)`, biases and all. -/
theorem ref_entry (r : Fin 10000) (j : Fin 256) :
    (refResult f s W1 b1 W2 b2 W3 b3 (ix2 r j) : EReal)
      = (∑ k : Fin 512, max (weightF * ((∑ q : Fin 256, mat (a := 10000) f r q * mat (a := 256) W1 q k) + (b1 (ix1 k) : EReal))
          + weightS * ((∑ q : Fin 256, mat (a := 10000) s r q * mat (a := 256) W2 q k) + (b2 (ix1 k) : EReal))) 0 * mat (a := 512) W3 k j)
        + (b3 (ix1 j) : EReal) := by
  pointwise [refResult, mat]

/-- With biases of zero it is the network's entry. -/
theorem ref_entry_of_zero (h1 : ∀ k : Fin 512, (b1 (ix1 k) : EReal) = 0) (h2 : ∀ k : Fin 512, (b2 (ix1 k) : EReal) = 0)
    (h3 : ∀ j : Fin 256, (b3 (ix1 j) : EReal) = 0) (r : Fin 10000) (j : Fin 256) :
    (refResult f s W1 b1 W2 b2 W3 b3 (ix2 r j) : EReal) = entry (mat f) (mat s) (mat W1) (mat W2) (mat W3) r j := by
  rw [ref_entry, h3, add_zero]
  simp only [h1, h2, add_zero]
  rfl

/-- A comparison with zero that answers yes everywhere found zeros. -/
theorem zero_of_equal {n : ℕ} {x z : FVec Ideal ⟨1, ![n]⟩ .f32} (hz : ∀ k, (z (ix1 k) : EReal) = 0)
    (h : cmpf .oeq x z = fun _ => 1#1) (k : Fin n) : (x (ix1 k) : EReal) = 0 := by
  have e : Ideal.cmp .oeq (x (ix1 k)) (z (ix1 k)) = 1#1 := congrFun h (ix1 k)
  rw [hz] at e
  by_contra hne
  simp [Ideal.cmp, hne] at e

/-- Under the precondition all three biases are zero. -/
theorem biases_zero (e : IVec S2x160000 32)
    (h : (Cert.Pre_zero_biases.fn (F := Ideal) f s e W1 b1 W2 b2 W3 b3).1 = (fun _ => 1#1)
      ∧ (Cert.Pre_zero_biases.fn (F := Ideal) f s e W1 b1 W2 b2 W3 b3).2.1 = (fun _ => 1#1)
      ∧ (Cert.Pre_zero_biases.fn (F := Ideal) f s e W1 b1 W2 b2 W3 b3).2.2 = (fun _ => 1#1)) :
    (∀ k : Fin 512, (b1 (ix1 k) : EReal) = 0) ∧ (∀ k : Fin 512, (b2 (ix1 k) : EReal) = 0) ∧ ∀ j : Fin 256, (b3 (ix1 j) : EReal) = 0 :=
  ⟨zero_of_equal (fun _ => Ideal.ofBits_zero_f32) h.1, zero_of_equal (fun _ => Ideal.ofBits_zero_f32) h.2.1,
    zero_of_equal (fun _ => Ideal.ofBits_zero_f32) h.2.2⟩

end Cert.ReferenceIdeal.Value
-- ==== Proof.lean ====
/-
  The certificate: `Cert.Claim`.

  `KernelLaunch.lean` and `KernelIdealLaunch.lean` give the kernel's runs, `KernelValue.lean` and `ReferenceValue.lean` the two
  results entry by entry, and here they are put side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_zero_biases
public import proofs.«01_k».proof.Proof.KernelLaunch
public import proofs.«01_k».proof.Proof.KernelIdealLaunch
public import proofs.«01_k».proof.Proof.KernelValue
public import proofs.«01_k».proof.Proof.ReferenceValue
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The kernel, on the machine's numbers, ends with its arguments as they were and every counter at zero. -/
theorem frame_kernel : Cert.quiescent_Kernel := fun m g _ =>
  (θ_run _ _ _).mono (fun _ h => ⟨fun c => (h.1 c).2, h.2⟩) (Cert.Kernel.Hand.runs m g)

/-- So it does on the extended reals, -/
theorem frame_kernelIdeal : Cert.quiescent_KernelIdeal := fun m g _ =>
  (θ_run _ _ _).mono (fun _ h => ⟨fun c => (h.1 c).2, h.2⟩) (Cert.KernelIdeal.Hand.runs m g)

/-- and so does the reference, which has no counters. -/
theorem frame_reference : Cert.quiescent_ReferenceIdeal := fun m g _ =>
  (θ_run _ _ _).mono (fun r h => ⟨fun c => (h c).2, sem_eq_zero_of_no_sems rfl r.2⟩) (Cert.ReferenceIdeal.Value.run m g)

/-- From the same arguments, the biases zero, the kernel and the reference end with the same result: both hold the network's entry
    at every row and column. -/
theorem same_result : Cert.algebraic_KernelIdeal_ReferenceIdeal_pre_zero_biases := by
  intro m g m' g' hpre hargs
  refine ⟨Cert.KernelIdeal.Hand.resultOf m, (θ_run _ _ _).mono (fun _ h => h.1) (Cert.KernelIdeal.Hand.runs m g),
    (θ_run _ _ _).mono (fun _ h c => ⟨(h c).1.trans ?_, (h c).2⟩) (Cert.ReferenceIdeal.Value.run m' g')⟩
  obtain ⟨a0, a1, -, a3, a4, a5, a6, a7, a8⟩ := hargs c
  rw [a0, a1, a3, a4, a5, a6, a7, a8]
  obtain ⟨z1, z2, z3⟩ := Cert.ReferenceIdeal.Value.biases_zero _ _ _ _ _ _ _ _ _ (hpre c)
  funext y
  obtain ⟨r, j, rfl⟩ : ∃ (r : Fin 10000) (j : Fin 256), y = ix2 r j := ⟨y 0, y 1, eq_ix2 y⟩
  exact (Cert.ReferenceIdeal.Value.ref_entry_of_zero _ _ _ _ _ _ _ _ z1 z2 z3 r j).trans
    (Cert.KernelIdeal.Hand.result_entry c _ _ _ _ _ r j).symm

theorem claim : Cert.Claim :=
  ⟨Cert.Kernel.Gen.facts, Cert.KernelIdeal.Gen.facts, Cert.ReferenceIdeal.Gen.facts, Cert.Pre_zero_biases.Gen.facts,
    frame_kernel, frame_kernelIdeal, fun m g _ => frame_kernelIdeal m g trivial, frame_reference,
    fun m g _ => frame_reference m g trivial, trivial, same_result⟩

end Cert.Proof

end
